-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64 : Shape := ⟨1, ![64]⟩
abbrev S2x64 : Shape := ⟨2, ![2, 64]⟩
abbrev S_ : Shape := ⟨0, ![]⟩
abbrev S1x64 : Shape := ⟨2, ![1, 64]⟩

abbrev nBuf : Table → Nat
  | .hbm => 3
  | _ => 0

abbrev bufTy : (tb : Table) → Fin (nBuf tb) → BufTy
  | .hbm, ⟨0, _⟩ => ⟨S64, .f32⟩
  | .hbm, ⟨1, _⟩ => ⟨S64, .f32⟩
  | .hbm, ⟨2, _⟩ => ⟨S2x64, .f32⟩
  | _, _ => ⟨S64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scs : Ref sig .scScalar := ⟨.hbm, 0, rfl⟩
abbrev main_arg1_scs : Ref sig .scScalar := ⟨.hbm, 1, rfl⟩
abbrev main_v0_scs : Ref sig .scScalar := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S64 : Shape := ⟨1, ![64]⟩
abbrev S_ : Shape := ⟨0, ![]⟩
abbrev S1x64 : Shape := ⟨2, ![1, 64]⟩
abbrev S2x64 : Shape := ⟨2, ![2, 64]⟩

abbrev nBuf : Space → Nat
  | .hbm => 23
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S1x64, .f32⟩
  | .hbm, ⟨22, _⟩ => ⟨S2x64, .f32⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.Setup.lean ====
/-
  The kernel as the SparseCore launch theorem sees it, and what its one call carries.

  @main makes one SparseCore call, whose kernel runs on the scalar subcore of SparseCore 0. The call hands that
  subcore the two argument vectors and the result, all three whole, and gets them back: the arguments as they were,
  the result as `stacked` says. Everything is stated over any float values `F`, so that the run serves the kernel's
  words and the extended reals alike.
-/
module

public import proofs.«01_k».proof.Defs
public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring

@[expose] public section

noncomputable section

namespace Cert.Proof.Stats

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's configuration -/

/-- The labels that @main's body table extends. -/
abbrev ΛP : Labels := Pipeline.Sig Λ₀ (Fin 0) fun p => (pcfgs (F := F) p).Adm
/-- The program's SparseCore calls: one, on one sequencer. -/
abbrev K : SparseCore.Cfg τ sig (ΛP (F := F)) 1 := sc (F := F)
/-- The body table below the SparseCore calls' own labels. -/
abbrev D [FloatOps F] : Defs nD τ sig (Elt F) (ΛP (F := F)) := Pipeline.defs pcfgs defs₀
/-- No loop of this program needs a measure. -/
abbrev 𝒱₀ : Variants := Variants.none
abbrev 𝒱 : Variants := 𝒱₀.lift
abbrev v₀ : 𝒱.V := Sum.inl none

/-- The launch's four semaphores are distinct where they must be and scoped to no kernel. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The handshakes' rounds beside the copies' counters. -/
abbrev UU : Type := UH × Counters

local notation "𝕄" => MT nD τ sig (HIx 1) (Elt F) ℕ UU ℕ

/-- The handshakes' rounds live in the left factor. -/
abbrev EH : Emb UH (MT nD τ sig (HIx 1) (Elt F) ℕ UU ℕ) := embL

/-! ## The arrays -/

/-- The loads, the capacities and the result on device `d`. -/
abbrev lLoc (d : Dev nD) : Loc nD τ sig := (SparseCore.T d).loc main_arg0
abbrev cLoc (d : Dev nD) : Loc nD τ sig := (SparseCore.T d).loc main_arg1
abbrev oLoc (d : Dev nD) : Loc nD τ sig := (SparseCore.T d).loc main_v0

/-- An element's second coordinate, as an index of a vector. -/
def col (i : S2x64.Idx) : S64.Idx := fun | 0 => i 1

/-- Row 0 is the first vector, row 1 the second: what the kernel leaves in the result. -/
def stacked {α : Type} (l c : S64.Idx → α) : S2x64.Idx → α := fun i =>
  if (i 0).val = 0 then l (col i) else c (col i)

variable (m : (ℓ : Loc nD τ sig) → Buf (Elt F) ℓ) (ρ : Dev nD → PrngReg)

/-- The result's contents after the call, from the launch contents of the arguments. -/
def out (d : Dev nD) : Buf (Elt F) (oLoc d) := stacked (α := Elt F .f32) (m (lLoc d)) (m (cLoc d))

abbrev lPts (d : Dev nD) : sProp 𝕄 := lLoc d ↦{fullShare} m (lLoc d)
abbrev cPts (d : Dev nD) : sProp 𝕄 := cLoc d ↦{fullShare} m (cLoc d)
abbrev oPts (d : Dev nD) (f : Buf (Elt F) (oLoc d)) : sProp 𝕄 := oLoc d ↦{fullShare} f

/-- What the call carries: the three arrays out to the sequencer, the result at anything, and back again, the result
    stacked. The kernel needs nothing else. -/
def P : (K (F := F)).Pay (nD := nD) (Val := Elt F) (Name := ℕ) (U := UU) where
  st := fun _ d _ => iprop(lPts m d ∗ cPts m d ∗ ∃ f, oPts d f)
  dn := fun _ d _ => iprop(lPts m d ∗ cPts m d ∗ oPts d (out m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.Stats

end
-- ==== Proof.Rows.lean ====
/-
  The result's two rows, as the kernel's copies address them: which elements each holds, that the two are disjoint and
  together the whole result, and what a copy of a whole vector into one leaves there.
-/
module

public import proofs.«01_k».proof.Proof.Setup

@[expose] public section

noncomputable section

namespace Cert.Proof.Stats

open Cert.KernelIdeal Cert.KernelIdeal.Gen

open Idealize.ShloMosaic
open Idealize.SL.Sem

/-! ## The kernel's memrefs -/

/-- The loads, the capacities and the result, whole. -/
abbrev lW : Memref sig .scScalar .hbm S64 .f32 := Memref.whole main_arg0_scs
abbrev cW : Memref sig .scScalar .hbm S64 .f32 := Memref.whole main_arg1_scs
abbrev oW : Memref sig .scScalar .hbm S2x64 .f32 := Memref.whole main_v0_scs

/-- Row `k` of the result as a copy's destination. -/
abbrev rowAt (k : ℕ) (hk : ∀ a, (![k, 0] : Fin 2 → Nat) a + S1x64.size a ≤ S2x64.size a) : Memref sig .scScalar .hbm S64 .f32 :=
  (oW.slice (Rect.unit (s := S2x64) ![k, 0] S1x64.size hk) (fun _ => rfl)).squeeze S64 squeezes_S1x64_S64

abbrev row0 : Memref sig .scScalar .hbm S64 .f32 := rowAt 0 inb_S2x64_S1x64_0_0
abbrev row1 : Memref sig .scScalar .hbm S64 .f32 := rowAt 1 inb_S2x64_S1x64_1_0

/-! ## Which elements a row holds -/

/-- Row `k`'s elements are those of the rectangle that the kernel slices. -/
theorem rowAt_set (k : ℕ) (hk) : (rowAt k hk).view.set = (Rect.unit (s := S2x64) ![k, 0] S1x64.size hk).set := by
  simp only [Memref.view_squeeze, View.set_reshape]; exact View.set_slice_whole _ _

/-- They are the elements whose first coordinate is `k`. -/
theorem mem_rowAt {k : ℕ} {hk} {i : S2x64.Idx} : i ∈ (rowAt k hk).view.set ↔ (i 0).val = k := by
  rw [rowAt_set, Rect.mem_set_unit]
  constructor
  · intro h
    have h0 := h 0
    simp at h0
    omega
  · intro h a
    have h1 := (i 1).isLt
    fin_cases a <;> simp_all

/-- No element is in both rows. -/
theorem rows_disjoint : Disjoint row0.view.set row1.view.set :=
  Finset.disjoint_left.mpr fun i h0 h1 => by
    have a := mem_rowAt.mp h0
    have b := mem_rowAt.mp h1
    omega

/-- Every element is in one. -/
theorem rows_union : row0.view.set ∪ row1.view.set = (Finset.univ : Finset S2x64.Idx) :=
  Finset.eq_univ_iff_forall.mpr fun i => Finset.mem_union.mpr (by
    have := (i 0).isLt
    rcases (by change (i 0).val < 2 at this; omega : (i 0).val = 0 ∨ (i 0).val = 1) with h | h
    · exact .inl (mem_rowAt.mpr h)
    · exact .inr (mem_rowAt.mpr h))

/-! ## What a copy leaves in a row -/

variable {Val : EltTy → Type}

/-- Element `x` of row `k` is an element of the result with second coordinate `x`. -/
theorem rowAt_emb (k : ℕ) (hk) (x : S64.Idx) : (((rowAt k hk).view.emb x : S2x64.Idx) 1).val = (x 0).val := by
  have e : Shape.reshapeEquiv squeezes_S1x64_S64.numel_eq x = Fin.cons ⟨0, Nat.one_pos⟩ x := Shape.reshapeEquiv_cons_one _ x
  change (((Rect.unit (s := S2x64) ![k, 0] S1x64.size hk).emb (Shape.reshapeEquiv squeezes_S1x64_S64.numel_eq x)) 1).val = _
  rw [e, Rect.emb_apply]
  show 0 + 1 * (x 0).val = _
  omega

/-- After a whole vector `w` was written to row `k`, the row's element with second coordinate `j` is `w j`. -/
theorem writes_rowAt (k : ℕ) (hk) (f : S2x64.Idx → Val .f32) (w : S64.Idx → Val .f32) (i : S2x64.Idx) (hi : i ∈ (rowAt k hk).view.set) :
    (rowAt k hk).view.writes Val f [⟨Rect.whole S64, w⟩] i = w (col i) := by
  obtain ⟨x, -, rfl⟩ := Finset.mem_map.mp hi
  rw [View.writes_singleton]
  have h := View.write_emb_of_mem (v := (rowAt k hk).view.slice (Rect.whole S64)) f w (Finset.mem_univ x)
  rw [View.emb_slice, Function.Embedding.trans_apply, Rect.emb_whole_apply] at h
  refine h.trans ?_
  rw [cast_eq]
  congr 1
  funext a
  match a with
  | 0 => exact Fin.ext (rowAt_emb k hk x).symm

/-- The loads in row 0: what `stacked` says of it. -/
theorem writes_row0 (f : S2x64.Idx → Val .f32) (l c : S64.Idx → Val .f32) (i : S2x64.Idx) (hi : i ∈ row0.view.set) :
    row0.view.writes Val f [⟨Rect.whole S64, l⟩] i = stacked l c i := by
  rw [writes_rowAt _ _ _ _ _ hi, stacked, if_pos (mem_rowAt.mp hi)]

/-- The capacities in row 1: what `stacked` says of it. -/
theorem writes_row1 (f : S2x64.Idx → Val .f32) (l c : S64.Idx → Val .f32) (i : S2x64.Idx) (hi : i ∈ row1.view.set) :
    row1.view.writes Val f [⟨Rect.whole S64, c⟩] i = stacked l c i := by
  rw [writes_rowAt _ _ _ _ _ hi, stacked, if_neg (by rw [mem_rowAt.mp hi]; decide)]

end Cert.Proof.Stats

end
-- ==== Proof.Body.lean ====
/-
  The kernel's body on SparseCore 0's scalar subcore. It issues two copies, each on a DMA semaphore of its own: the
  loads into row 0 of the result and the capacities into row 1; then it waits for both. While both are in flight each
  holds its own row and its own source. Afterwards the arguments are as they were, each row holds its vector, and both
  semaphores read zero.
-/
module

public import proofs.«01_k».proof.Proof.Rows

@[expose] public section

noncomputable section

namespace Cert.Proof.Stats

open Cert.KernelIdeal Cert.KernelIdeal.Gen

open Idealize.ShloMosaic
open Idealize.ShloMosaic.SparseCore (S V T)
open Idealize.ShloMosaic.SparseCore.Cfg (HIx Pay ownBufs ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD)

/-- The kernel's grid point at SparseCore `c`. -/
def coordsS (c : Fin (grid0.bound 0)) : grid0.Coords := fun | 0 => c | ⟨_ + 1, h⟩ => absurd h (Nat.not_lt.2 (Nat.le_add_left _ _))

/-- SparseCore 0's sequencer. -/
abbrev S0 (h : 0 < grid0.bound 0) : Thread nD τ := S d ((⟨0, h⟩ : Fin (grid0.bound 0)).castLE hcore0)

/-- The body's run: the result enters as its two rows at anything and leaves as its two rows at `out`. -/
theorem seq_run (h : 0 < grid0.bound 0) (O : CellTallies nD τ sig (HIx 1)) (W : Waits sig (HIx 1))
    (fo : Buf (Elt F) (oW.view.loc (S0 d h))) :
    (iprop(Transfers.MayWaits (S0 d h) (none : HIx 1) O
        ∗ (lW.view.loc (S0 d h) ↦{fullShare} m (lLoc d))
        ∗ (cW.view.loc (S0 d h) ↦{fullShare} m (cLoc d))
        ∗ (row0.view.loc (S0 d h) ↦[row0.view.set]{fullShare} fo)
        ∗ (row1.view.loc (S0 d h) ↦[row1.view.set]{fullShare} fo)
        ∗ semVal (S0 d h, SemLoc.dma (0 : DmaSem sig)) 0 ∗ semVal (S0 d h, SemLoc.dma (1 : DmaSem sig)) 0
        ∗ owes (S0 d h) O W) : sProp 𝕄)
      ⊢ wp frame (wpE (defs₀ (F := F)) 𝒱₀ (S0 d h) none) Set.univ
          (cc0__router_stats (coordsS ⟨0, h⟩) lW (Memref.isWhole_whole _) cW (Memref.isWhole_whole _)
            oW (Memref.isWhole_whole _) cc0_scratch0 cc0_scratch1)
          fun _ => iprop(
        (lW.view.loc (S0 d h) ↦{fullShare} m (lLoc d))
        ∗ (cW.view.loc (S0 d h) ↦{fullShare} m (cLoc d))
        ∗ (row0.view.loc (S0 d h) ↦[row0.view.set]{fullShare} out m d)
        ∗ (row1.view.loc (S0 d h) ↦[row1.view.set]{fullShare} out m d)
        ∗ semVal (S0 d h, SemLoc.dma (0 : DmaSem sig)) 0 ∗ semVal (S0 d h, SemLoc.dma (1 : DmaSem sig)) 0
        ∗ ∃ W', owes (S0 d h) O W') := by
  iintro ⟨#Hmw, Hl, Hc, Ho0, Ho1, Hs0, Hs1, HO⟩
  sl_unfold [cc0__router_stats]
  sl_exec
  sl_step
  ihave H0 := (Entails.of_eq (pointsTo_congr (writes_row0 (Val := Elt F) fo (m (lLoc d)) (m (cLoc d))))) $$ Ho0
  ihave H1 := (Entails.of_eq (pointsTo_congr (writes_row1 (Val := Elt F) fo (m (lLoc d)) (m (cLoc d))))) $$ Ho1
  isplitl [Hl]; · iexact Hl
  isplitl [Hc]; · iexact Hc
  isplitl [H0]; · iexact H0
  isplitl [H1]; · iexact H1
  isplitl [Hs0]; · iexact Hs0
  isplitl [Hs1]; · iexact Hs1
  iexists _; iexact HO

/-! ## The sequencer's storage -/

/-- The two DMA semaphores that the body names, on SparseCore `c`'s sequencer. -/
abbrev dcell (c : Fin τ.nSC) (k : Fin 2) : GSem nD τ sig := (S d c, .dma (k : DmaSem sig))

omit [FloatOps F] in
/-- They are the sequencer's own cells: its cells at zero are these two at zero and the rest. -/
theorem ownSems0_S (c : Fin τ.nSC) :
    (ownSems0 (S d c) : sProp 𝕄)
      = iprop((semVal (dcell d c 0) 0 ∗ semVal (dcell d c 1) 0)
          ∗ bigSep (ownCells (S d c) \ Finset.univ.image (dcell d c)) fun g => semVal g 0) := by
  unfold SparseCore.Cfg.ownSems0
  rw [SparseCore.bigSep_sdiff_split' (t := Finset.univ.image (dcell d c)) (Finset.image_subset_iff.mpr fun k _ =>
      mem_ownCells.mpr ⟨rfl, (show ∀ s : DmaSem sig, (SemLoc.dma s : SemLoc sig).isScoped .scScalar = true by decide) _⟩),
    SparseCore.bigSep_image_of_injOn (fun a _ b _ h => by
      have := congrArg (fun g : GSem nD τ sig => g.2) h
      simpa only [SemLoc.dma.injEq] using this)]
  rw [show (Finset.univ : Finset (Fin 2)) = {0, 1} by decide, SparseCore.bigSep_insert' (by decide), bigSep_singleton]

omit [FloatOps F] in
/-- The result whole is its two rows. -/
theorem pts_rows (c : Fin τ.nSC) (f : Buf (Elt F) (oLoc d)) :
    (oPts d f : sProp 𝕄)
      = iprop((row0.view.loc (S d c) ↦[row0.view.set]{fullShare} f) ∗ row1.view.loc (S d c) ↦[row1.view.set]{fullShare} f) := by
  have h := pointsTo_union (Ix := HIx 1) (Name := ℕ) (U := UU) (Lvl := ℕ) (ℓ := oLoc d) (q := fullShare) (f := f) rows_disjoint
  rw [rows_union] at h
  exact BI.equiv_iff.mp ⟨h.1, h.2⟩

omit [FloatOps F] in
/-- The loads as the sequencer addresses them are the TensorCore's array. -/
theorem pts_l (c : Fin τ.nSC) (f : Buf (Elt F) (lLoc d)) :
    (lW.view.loc (S d c) ↦{fullShare} f : sProp 𝕄) = lLoc d ↦{fullShare} f := rfl
omit [FloatOps F] in
/-- So are the capacities. -/
theorem pts_c (c : Fin τ.nSC) (f : Buf (Elt F) (cLoc d)) :
    (cW.view.loc (S d c) ↦{fullShare} f : sProp 𝕄) = cLoc d ↦{fullShare} f := rfl

/-- The body from the call's operands and the sequencer's storage to the call's results and the storage again. -/
theorem body (hF : (K (F := F)).Facts) (h : 0 < grid0.bound 0) (O : CellTallies nD τ sig (HIx 1)) (W : Waits sig (HIx 1))
    (hO : ∀ g, O g none = 0) :
    iprop(levAts (K (F := F)).L (K (F := F)).lev ∗ emp ∗ (lPts m d ∗ cPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0__router_stats (coordsS ⟨0, h⟩) lW (Memref.isWhole_whole _) cW (Memref.isWhole_whole _)
            oW (Memref.isWhole_whole _) cc0_scratch0 cc0_scratch1)
          fun _ => iprop((lPts m d ∗ cPts m d ∗ oPts d (out m d)) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [SparseCore.Cfg.scopedSems0_S (Val := Elt F) d _, ownSems0_S]
  iintro ⟨#Hlv, -, ⟨Hl, Hc, %fo, Ho⟩, Hbufs, ⟨⟨⟨Hs0, Hs1⟩, Hsems⟩, HtileSems⟩, HO⟩
  ihave Hmw := ((K (F := F)).mayWaits_none (thr := S0 d h) hO) $$ Hlv
  ihave Hr := (Entails.of_eq (pts_rows (F := F) d _ _)) $$ Ho
  icases Hr with ⟨Hr0, Hr1⟩
  iapply (wp_wand_r Idealize.ShloMosaic.frame (wpE (defs₀ (F := F)) 𝒱₀ (S0 d h) none) Set.univ)
  isplitl [Hl Hc Hr0 Hr1 Hs0 Hs1 HO]
  · iapply (seq_run m d h O W fo)
    isplitr; · iexact Hmw
    isplitl [Hl]; · iapply (Entails.of_eq (pts_l (F := F) d _ _).symm); iexact Hl
    isplitl [Hc]; · iapply (Entails.of_eq (pts_c (F := F) d _ _).symm); iexact Hc
    isplitl [Hr0]; · iexact Hr0
    isplitl [Hr1]; · iexact Hr1
    isplitl [Hs0]; · iexact Hs0
    isplitl [Hs1]; · iexact Hs1
    iexact HO
  iintro %_ ⟨Hl, Hc, Hr0, Hr1, Hs0, Hs1, %W', HO⟩
  isplitl [Hl Hc Hr0 Hr1]
  · isplitl [Hl]; · iapply (Entails.of_eq (pts_l (F := F) d _ _)); iexact Hl
    isplitl [Hc]; · iapply (Entails.of_eq (pts_c (F := F) d _ _)); iexact Hc
    iapply (Entails.of_eq (pts_rows (F := F) d _ _).symm)
    isplitl [Hr0]; · iexact Hr0
    iexact Hr1
  isplitl [Hbufs]; · iexact Hbufs
  isplitl [Hs0 Hs1 Hsems HtileSems]
  · isplitl [Hs0 Hs1 Hsems]
    · isplitl [Hs0 Hs1]
      · isplitl [Hs0]; · iexact Hs0
        iexact Hs1
      iexact Hsems
    iexact HtileSems
  iexists W'; isplitr
  · ipureintro; intro p _
    rcases p.2 with _ | q
    · exact .inr (.inl rfl)
    · exact .inr (.inr (congrArg some (Subsingleton.elim q 0)))
  · iexact HO

end Cert.Proof.Stats

end
-- ==== Proof.Run.lean ====
/-
  The whole program's run, over any float values: every weakly fair execution of the device's threads terminates without
  a fault, with the arguments unchanged, the result holding the two vectors as its rows, and every semaphore counter at
  zero. The launch theorem puts together the sequencer's obligation (the kernel's body), the launch's ghost state and
  @main, which is the one call.
-/
module

public import proofs.«01_k».proof.Proof.Body

@[expose] public section

noncomputable section

namespace Cert.Proof.Stats

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The sequencer's obligation -/

/-- What the body table runs on a sequencer: the kernel, at its SparseCore's grid point if that is in the grid. -/
theorem defs₀_scalar (c : Fin τ.nSC) :
    defs₀ (F := F) (.scScalar c) 0 ()
      = SparseCore.onCore hcore0 (fun c => cc0__router_stats (coordsS c) lW (Memref.isWhole_whole _) cW (Memref.isWhole_whole _)
          oW (Memref.isWhole_whole _) cc0_scratch0 cc0_scratch1) ⟨⟩ c := rfl

/-- The call's one sequencer meets its obligation by the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body m d facts h O W hO

/-! ## The launch's ghost state -/

/-- The handshakes' rounds at their start, and no counter yet. -/
def u₀ : UU := (initOf (K (F := F)).hsCells (K (F := F)).hsToks, 1)

omit [FloatOps F] in
/-- Any number of nothings is nothing. -/
theorem bigSep_nothing {I : Type} (s : Finset I) : (bigSep s fun _ => iprop(emp) : sProp 𝕄) = iprop(emp) := bigSep_emp_const s

/-- It gives the launch its rounds; @main and the kernel start from nothing of their own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

/-- The TensorCore's arrays are the two arguments and the result. -/
theorem unscopedBufs_eq (d : Dev nD) (W : (b : Ref sig .tc) → Buf (Elt F) ((d.tc : Thread nD τ).loc b)) :
    (unscopedBufs d W : sProp 𝕄)
      = iprop((lLoc d ↦{fullShare} W main_arg0) ∗ (cLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for its one SparseCore. -/
theorem st_eq (d : Dev nD) : (bigSep Finset.univ fun c : Fin ((K (F := F)).nCore 0) => (P m).st 0 d c)
    = iprop(lPts m d ∗ cPts m d ∗ ∃ f, oPts d f) :=
  bigSep_univ_of_subsingleton (0 : Fin 1)
/-- And what it gives back. -/
theorem dn_eq (d : Dev nD) : (bigSep Finset.univ fun c : Fin ((K (F := F)).nCore 0) => (P m).dn 0 d c)
    = iprop(lPts m d ∗ cPts m d ∗ oPts d (out m d)) :=
  bigSep_univ_of_subsingleton (0 : Fin 1)

/-- What @main leaves: the arguments as they were, the result stacked. -/
abbrev FIN (d : Dev nD) : sProp 𝕄 := iprop(lPts m d ∗ cPts m d ∗ oPts d (out m d))

/-- @main is the call: the three arrays go out and come back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hl, Hc, Ho⟩, Hts, -⟩, -⟩
  iapply ((K (F := F)).wp_run (D (F := F)) 𝒱 (EH := EH) (P := P m) κ d 0) $$ [Hst Hl Hc Ho Hb Hts]
  isplitr; · iexact Hctx
  isplitl [Hst]; · iexact Hst
  isplitl [Hl Hc Ho]
  · rw [st_eq]
    isplitl [Hl]; · iexact Hl
    isplitl [Hc]; · iexact Hc
    iexists _; iexact Ho
  iintro ⟨Hst, Hdn⟩
  ihave Hdn' := (Entails.of_eq (dn_eq m d)) $$ Hdn
  imodintro
  isplitl [Hst]; · iexact Hst
  isplitl [Hdn']; · iexact Hdn'
  isplitl [Hb] <;> iassumption

/-! ## The final memory -/

/-- What the final memory holds on device `d`. -/
def fq (d : Dev nD) (s' : Phys nD τ sig (Elt F)) : Prop :=
  s'.mem.mem (oLoc d) = out m d ∧ s'.mem.mem (lLoc d) = m (lLoc d) ∧ s'.mem.mem (cLoc d) = m (cLoc d)

/-- An array held whole is what the memory holds. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨H, HSI⟩
  ihave H' := (SI_pointsTo_agree (st := s') (ℓ := ℓ) (I := Finset.univ) (q := fullShare) (f := f)) $$ [HSI H]
  · isplitl [HSI] <;> iassumption
  icases H' with %h
  ipureintro; exact funext fun i => h i (Finset.mem_univ i)

/-- What @main leaves says so. -/
theorem hfin (d : Dev nD) (s' : Phys nD τ sig (Elt F)) : iprop(FIN m d ∗ SI s') ⊢ (⌜fq m d s'⌝ : sProp 𝕄) := fun x hx =>
  ⟨((sep_mono_left (sep_elim_right.trans sep_elim_right)).trans (read_whole (oLoc d) _ s')) x hx,
    ((sep_mono_left sep_elim_left).trans (read_whole (lLoc d) _ s')) x hx,
    ((sep_mono_left (sep_elim_right.trans sep_elim_left)).trans (read_whole (cLoc d) _ s')) x hx⟩

/-- What every final state satisfies. -/
def QC : PUnit × MemSt nD τ sig (Elt F) → Prop := fun r =>
  (∀ c : Dev nD, r.2.mem (oLoc c) = out m c ∧ r.2.mem (lLoc c) = m (lLoc c) ∧ r.2.mem (cLoc c) = m (cLoc c)) ∧ r.2.sem = fun _ => 0

/-- The program runs to such a state, from any memory whose counters are zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m)
    (fun _ h hz => ⟨h, hz⟩)

end Cert.Proof.Stats

end
-- ==== Proof.Value.lean ====
/-
  The reference's result at the exact reals. Each of its rows is `(0·0 + x) / 1` of an argument's entries, which is `x`
  (exactly, at the infinities too), and the two rows are laid one under the other: the kernel's result.
-/
module

public import proofs.«01_k».proof.Proof.Setup
public import proofs.«01_k».proof.Proof.Gen.ReferenceIdeal.Run
public import Idealize.ShloMosaic.Lib.IdealHost
public import Idealize.ShloMosaic.Lib.Pipeline.Value

@[expose] public section

noncomputable section

namespace Cert.Proof.Stats

open Cert.ReferenceIdeal Cert.ReferenceIdeal.Gen Idealize.ShloMosaic

/-- One of the reference's means: the running sum's start times the history's length, plus the vector, over that length
plus one. -/
abbrev mean (x : FVec Ideal S64 .f32) : FVec Ideal S64 .f32 :=
  Host.divf (addf (mulf (broadcastInDim S64 ![] bcast_S_S64 (constant S_ .f32 0x00000000#32))
      (broadcastInDim S64 ![] bcast_S_S64 (constant S_ .f32 0x00000000#32))) x)
    (broadcastInDim S64 ![] bcast_S_S64 (constant S_ .f32 0x3F800000#32))

/-- Dividing by one changes nothing. -/
theorem over_one (x : EReal) : Ideal.div x 1 = x := by
  unfold Ideal.div; rw [if_neg one_ne_zero, inv_one, mul_one]

/-- The mean over a history of one entry is that entry. -/
theorem mean_eq (x : FVec Ideal S64 .f32) : mean x = x := funext fun i => by
  change Ideal.div (Ideal.ofBits .f32 0x00000000#32 * Ideal.ofBits .f32 0x00000000#32 + x i) (Ideal.ofBits .f32 0x3F800000#32) = x i
  rw [Ideal.ofBits_zero_f32, Ideal.ofBits_one_f32, mul_zero, zero_add, over_one]

/-- The reference's stacked means are the two vectors as rows. -/
theorem means_stacked (l c : FVec Ideal S64 .f32) :
    concatenate S2x64 0 [⟨S1x64, broadcastInDim S1x64 ![1] bcast_S64_S1x64_1 (mean l)⟩,
        ⟨S1x64, broadcastInDim S1x64 ![1] bcast_S64_S1x64_1 (mean c)⟩] concatenates_S1x64_S1x64_S2x64_d0
      = stacked l c := by
  rw [mean_eq, mean_eq]
  funext i
  unfold stacked
  have h0 : (i 0).val < 2 := (i 0).isLt
  split
  · rename_i h
    rw [concatenate_pair_apply_left (s₁ := S1x64) (s₂ := S1x64) 0 _ _ _ i rfl (fun | 0 => ⟨0, by decide⟩ | 1 => i 1)
      (fun | 0 => h.symm | 1 => rfl)]
    exact congrArg l (funext fun | 0 => rfl)
  · rename_i h
    rw [concatenate_pair_apply_right (s₁ := S1x64) (s₂ := S1x64) 0 _ _ _ i rfl rfl (fun | 0 => ⟨0, by decide⟩ | 1 => i 1)
      (fun | 0 => fun hb => absurd rfl hb | 1 => fun _ => rfl) (show 0 + 1 = (i 0).val by omega)]
    exact congrArg c (funext fun | 0 => rfl)

end Cert.Proof.Stats

end
-- ==== Proof.lean ====
/-
  The certificate. The kernel on the SparseCore copies the expert loads and the expert capacities into the two rows of
  its result; the reference takes each vector's mean over a history of one entry and stacks the two means. Both frames
  of the kernel and the value claim come from one run (Proof/Run.lean); the reference's run is the generated one, and
  Proof/Value.lean says that its result is the two vectors as rows. No claim has a precondition, and the idealization
  rewrote nothing.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel at its own formats: it runs without a fault and leaves its arguments unchanged and every counter at zero. -/
theorem frame_kernel : Cert.quiescent_Kernel := fun m ρ _ =>
  (θ_run Cert.KernelIdeal.defs _ _).mono (fun _ h => ⟨fun c => (h.1 c).2, h.2⟩) (Stats.run_main (F := Bits) m ρ)

/-- The same of the kernel at the exact reals. -/
theorem frame_kernelIdeal : Cert.quiescent_KernelIdeal := fun m ρ _ =>
  (θ_run Cert.KernelIdeal.defs _ _).mono (fun _ h => ⟨fun c => (h.1 c).2, h.2⟩) (Stats.run_main (F := Ideal) m ρ)

/-- The reference runs and leaves its arguments unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the exact reals, from the same arguments, the kernel's result is the reference's. -/
theorem value : Cert.algebraic_KernelIdeal_ReferenceIdeal := fun m ρ m' ρ' _ hm =>
  ⟨fun c => Stats.out m c,
    (θ_run Cert.KernelIdeal.defs _ _).mono (fun _ h => h.1) (Stats.run_main (F := Ideal) m ρ),
    (θ_run Cert.ReferenceIdeal.defs _ _).mono (fun _ h c =>
        ⟨(h c).1.trans ((Stats.means_stacked _ _).trans (congrArg₂ Stats.stacked (hm c).1 (hm c).2)), (h c).2⟩)
      (Cert.ReferenceIdeal.Value.run (F := Ideal) m' ρ')⟩

/-- Every claim. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
